-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_where_alive [hPre_finite_where_alive : Cert.Pre_finite_where_alive.Facts] (m : (ℓ : Loc Cert.KernelIdeal.nD Cert.KernelIdeal.τ Cert.KernelIdeal.sig) → Buf (Elt Ideal) ℓ) : Prop :=
  ∀ c : Dev Cert.KernelIdeal.nD,
    (Cert.Pre_finite_where_alive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_where_alive [hPre_finite_where_alive : Cert.Pre_finite_where_alive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_where_alive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_where_alive [hKernelIdeal : Cert.KernelIdeal.Facts] [hPre_finite_where_alive : Cert.Pre_finite_where_alive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_where_alive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_where_alive [hReferenceIdeal : Cert.ReferenceIdeal.Facts] [hPre_finite_where_alive : Cert.Pre_finite_where_alive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_where_alive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_where_alive [hKernelIdeal : Cert.KernelIdeal.Facts] [hReferenceIdeal : Cert.ReferenceIdeal.Facts] [hPre_finite_where_alive : Cert.Pre_finite_where_alive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_where_alive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_where_alive : Cert.Pre_finite_where_alive.Facts),
    quiescent_Kernel (hKernel := hKernel)
    ∧ quiescent_KernelIdeal (hKernelIdeal := hKernelIdeal)
    ∧ quiescent_KernelIdeal_pre_finite_where_alive (hKernelIdeal := hKernelIdeal) (hPre_finite_where_alive := hPre_finite_where_alive)
    ∧ quiescent_ReferenceIdeal (hReferenceIdeal := hReferenceIdeal)
    ∧ quiescent_ReferenceIdeal_pre_finite_where_alive (hReferenceIdeal := hReferenceIdeal) (hPre_finite_where_alive := hPre_finite_where_alive)
    ∧ preserves_Kernel_KernelIdeal
    ∧ algebraic_KernelIdeal_ReferenceIdeal_pre_finite_where_alive (hKernelIdeal := hKernelIdeal) (hReferenceIdeal := hReferenceIdeal) (hPre_finite_where_alive := hPre_finite_where_alive)
-- ==== Pre_finite_where_alive.lean ====
abbrev S256x512x256 : Shape := ⟨3, ![256, 512, 256]⟩
abbrev S256x512 : Shape := ⟨2, ![256, 512]⟩
abbrev S256 : Shape := ⟨1, ![256]⟩
abbrev S256x512x1 : Shape := ⟨3, ![256, 512, 1]⟩
abbrev S_ : Shape := ⟨0, ![]⟩

class Facts : Prop where
  bcast_S256x512_S256x512x1_0_1 : S256x512.BroadcastsInDim S256x512x1 (![0, 1] : Fin 2 → Fin S256x512x1.rank)
  bcast_S256x512x1_S256x512x256_0_1_2 : S256x512x1.BroadcastsInDim S256x512x256 (![0, 1, 2] : Fin 3 → Fin S256x512x256.rank)
  bcast_S_S256x512x256 : S_.BroadcastsInDim S256x512x256 (![] : Fin 0 → Fin S256x512x256.rank)
  bcast_S_S256 : S_.BroadcastsInDim S256 (![] : Fin 0 → Fin S256.rank)
  reducesTo_S256x512x256_S_d0_1_2 : S256x512x256.ReducesTo [0, 1, 2] S_
  h_S_ : 0 < S_.numel
  reducesTo_S256_S_d0 : S256.ReducesTo [0] S_

variable [Facts]

def fn_where {F : FTy → Type} [FloatOps F] (arg0 : IVec S256x512x1 1) (arg1 : FVec F S_ .f32) (arg2 : FVec F S256x512x256 .f32) : FVec F S256x512x256 .f32 :=
  let v0 : FVec F S_ .f32 := id arg1
  let v1 : IVec S256x512x256 1 := broadcastInDim S256x512x256 ![0, 1, 2] bcast_S256x512x1_S256x512x256_0_1_2 arg0
  let v2 : FVec F S256x512x256 .f32 := broadcastInDim S256x512x256 ![] bcast_S_S256x512x256 v0
  let v3 : FVec F S256x512x256 .f32 := select v1 v2 arg2
  v3

def fn {F : FTy → Type} [FloatOps F] (main_arg0 : FVec F S256x512x256 .f32) (main_arg1 : IVec S256x512 1) (main_arg2 : FVec F S256 .f32) (main_arg3 : FVec F S256 .f32) : IVec S_ 1 :=
  let main_v0 : IVec S256x512x1 1 := broadcastInDim S256x512x1 ![0, 1] bcast_S256x512_S256x512x1_0_1 main_arg1
  let main_cst : FVec F S_ .f32 := constant S_ .f32 0x00000000#32
  let main_v1 : FVec F S256x512x256 .f32 := fn_where (F := F) main_v0 main_cst main_arg0
  let main_v2 : FVec F S256x512x256 .f32 := Host.absf main_v1
  let main_cst_0 : FVec F S_ .f32 := constant S_ .f32 0x7F800000#32
  let main_v3 : FVec F S256x512x256 .f32 := broadcastInDim S256x512x256 ![] bcast_S_S256x512x256 main_cst_0
  let main_v4 : IVec S256x512x256 1 := cmpf .olt main_v2 main_v3
  let main_v5 : FVec F S256 .f32 := Host.absf main_arg2
  let main_cst_1 : FVec F S_ .f32 := constant S_ .f32 0x7F800000#32
  let main_v6 : FVec F S256 .f32 := broadcastInDim S256 ![] bcast_S_S256 main_cst_1
  let main_v7 : IVec S256 1 := cmpf .olt main_v5 main_v6
  let main_c : IVec S_ 1 := constantI S_ 1 1#1
  let main_v8 : IVec S_ 1 := (fun x v => Host.reduce IntOp.andi x v reducesTo_S256x512x256_S_d0_1_2 h_S_) main_v4 main_c
  let main_c_2 : IVec S_ 1 := constantI S_ 1 1#1
  let main_v9 : IVec S_ 1 := (fun x v => Host.reduce IntOp.andi x v reducesTo_S256_S_d0 h_S_) main_v7 main_c_2
  let main_v10 : IVec S_ 1 := andi main_v8 main_v9
  main_v10
-- ==== Kernel.lean ====
abbrev S256x512x256 : Shape := ⟨3, ![256, 512, 256]⟩
abbrev S256x512 : Shape := ⟨2, ![256, 512]⟩
abbrev S256 : Shape := ⟨1, ![256]⟩
abbrev S1x256 : Shape := ⟨2, ![1, 256]⟩
abbrev S8x512x256 : Shape := ⟨3, ![8, 512, 256]⟩
abbrev S8x512 : Shape := ⟨2, ![8, 512]⟩
abbrev S1x512 : Shape := ⟨2, ![1, 512]⟩
abbrev S512x256 : Shape := ⟨2, ![512, 256]⟩
abbrev S1x512x256 : Shape := ⟨3, ![1, 512, 256]⟩
abbrev S1 : Shape := ⟨1, ![1]⟩
abbrev S1x1 : Shape := ⟨2, ![1, 1]⟩

abbrev nBuf : Space → Nat
  | .hbm => 9
  | .vmem => 8
  | .smem => 0
  | _ => 0

abbrev bufTy : (tb : Table) → Fin (tcTables nBuf tb) → BufTy
  | .hbm, ⟨0, _⟩ => ⟨S256x512x256, .f32⟩
  | .hbm, ⟨1, _⟩ => ⟨S256x512, .i1⟩
  | .hbm, ⟨2, _⟩ => ⟨S256, .f32⟩
  | .hbm, ⟨3, _⟩ => ⟨S256, .f32⟩
  | .hbm, ⟨4, _⟩ => ⟨S256x512, .i1⟩
  | .hbm, ⟨5, _⟩ => ⟨S256x512, .f32⟩
  | .hbm, ⟨6, _⟩ => ⟨S1x256, .f32⟩
  | .hbm, ⟨7, _⟩ => ⟨S1x256, .f32⟩
  | .hbm, ⟨8, _⟩ => ⟨S256x512x256, .f32⟩
  | .local _ .vmem, ⟨0, _⟩ => ⟨S8x512x256, .f32⟩
  | .local _ .vmem, ⟨1, _⟩ => ⟨S8x512x256, .f32⟩
  | .local _ .vmem, ⟨2, _⟩ => ⟨S8x512, .f32⟩
  | .local _ .vmem, ⟨3, _⟩ => ⟨S8x512, .f32⟩
  | .local _ .vmem, ⟨4, _⟩ => ⟨S1x256, .f32⟩
  | .local _ .vmem, ⟨5, _⟩ => ⟨S1x256, .f32⟩
  | .local _ .vmem, ⟨6, _⟩ => ⟨S8x512x256, .f32⟩
  | .local _ .vmem, ⟨7, _⟩ => ⟨S8x512x256, .f32⟩
  | _, _ => ⟨S256x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x512x256 : Shape := ⟨3, ![256, 512, 256]⟩
abbrev S256x512 : Shape := ⟨2, ![256, 512]⟩
abbrev S256 : Shape := ⟨1, ![256]⟩
abbrev S256x512x1 : Shape := ⟨3, ![256, 512, 1]⟩
abbrev S_ : Shape := ⟨0, ![]⟩
abbrev S256x1 : Shape := ⟨2, ![256, 1]⟩
abbrev S256x1x1 : Shape := ⟨3, ![256, 1, 1]⟩
abbrev S256x256 : Shape := ⟨2, ![256, 256]⟩
abbrev S256x1x256 : Shape := ⟨3, ![256, 1, 256]⟩
abbrev S1x1x256 : Shape := ⟨3, ![1, 1, 256]⟩

abbrev nBuf : Space → Nat
  | .hbm => 56
  | .vmem => 0
  | .smem => 0
  | _ => 0

abbrev bufTy : (tb : Table) → Fin (tcTables nBuf tb) → BufTy
  | .hbm, ⟨0, _⟩ => ⟨S256x512x256, .f32⟩
  | .hbm, ⟨1, _⟩ => ⟨S256x512, .i1⟩
  | .hbm, ⟨2, _⟩ => ⟨S256, .f32⟩
  | .hbm, ⟨3, _⟩ => ⟨S256, .f32⟩
  | .hbm, ⟨4, _⟩ => ⟨S256x512, .i1⟩
  | .hbm, ⟨5, _⟩ => ⟨S256x512x1, .i1⟩
  | .hbm, ⟨6, _⟩ => ⟨S256x512x1, .f32⟩
  | .hbm, ⟨7, _⟩ => ⟨S_, .f32⟩
  | .hbm, ⟨8, _⟩ => ⟨S256x1, .f32⟩
  | .hbm, ⟨9, _⟩ => ⟨S256x1x1, .f32⟩
  | .hbm, ⟨10, _⟩ => ⟨S_, .f32⟩
  | .hbm, ⟨11, _⟩ => ⟨S_, .f32⟩
  | .hbm, ⟨12, _⟩ => ⟨S256x1x1, .f32⟩
  | .hbm, ⟨13, _⟩ => ⟨S256x1x1, .f32⟩
  | .hbm, ⟨14, _⟩ => ⟨S_, .f32⟩
  | .hbm, ⟨15, _⟩ => ⟨S256x1x1, .f32⟩
  | .hbm, ⟨16, _⟩ => ⟨S256x1x1, .i1⟩
  | .hbm, ⟨17, _⟩ => ⟨S256x512x256, .f32⟩
  | .hbm, ⟨18, _⟩ => ⟨S256x512x256, .f32⟩
  | .hbm, ⟨19, _⟩ => ⟨S_, .f32⟩
  | .hbm, ⟨20, _⟩ => ⟨S256x256, .f32⟩
  | .hbm, ⟨21, _⟩ => ⟨S256x1x256, .f32⟩
  | .hbm, ⟨22, _⟩ => ⟨S256x1x256, .f32⟩
  | .hbm, ⟨23, _⟩ => ⟨S256x1x256, .f32⟩
  | .hbm, ⟨24, _⟩ => ⟨S256x1x256, .i1⟩
  | .hbm, ⟨25, _⟩ => ⟨S256x1x256, .f32⟩
  | .hbm, ⟨26, _⟩ => ⟨S256x512x256, .f32⟩
  | .hbm, ⟨27, _⟩ => ⟨S256x512x256, .f32⟩
  | .hbm, ⟨28, _⟩ => ⟨S256x512x256, .f32⟩
  | .hbm, ⟨29, _⟩ => ⟨S_, .f32⟩
  | .hbm, ⟨30, _⟩ => ⟨S256x256, .f32⟩
  | .hbm, ⟨31, _⟩ => ⟨S256x1x256, .f32⟩
  | .hbm, ⟨32, _⟩ => ⟨S256x1x256, .f32⟩
  | .hbm, ⟨33, _⟩ => ⟨S256x1x256, .f32⟩
  | .hbm, ⟨34, _⟩ => ⟨S_, .f32⟩
  | .hbm, ⟨35, _⟩ => ⟨S256x1x256, .f32⟩
  | .hbm, ⟨36, _⟩ => ⟨S256x1x256, .i1⟩
  | .hbm, ⟨37, _⟩ => ⟨S256x1x256, .f32⟩
  | .hbm, ⟨38, _⟩ => ⟨S_, .f32⟩
  | .hbm, ⟨39, _⟩ => ⟨S256x1x256, .f32⟩
  | .hbm, ⟨40, _⟩ => ⟨S256x1x256, .f32⟩
  | .hbm, ⟨41, _⟩ => ⟨S256x1x256, .f32⟩
  | .hbm, ⟨42, _⟩ => ⟨S_, .f32⟩
  | .hbm, ⟨43, _⟩ => ⟨S256x1x256, .f32⟩
  | .hbm, ⟨44, _⟩ => ⟨S256x1x256, .i1⟩
  | .hbm, ⟨45, _⟩ => ⟨S256x1x256, .f32⟩
  | .hbm, ⟨46, _⟩ => ⟨S256x512x256, .f32⟩
  | .hbm, ⟨47, _⟩ => ⟨S256x512x256, .f32⟩
  | .hbm, ⟨48, _⟩ => ⟨S256x512x256, .f32⟩
  | .hbm, ⟨49, _⟩ => ⟨S256x512x256, .f32⟩
  | .hbm, ⟨50, _⟩ => ⟨S1x1x256, .f32⟩
  | .hbm, ⟨51, _⟩ => ⟨S256x512x256, .f32⟩
  | .hbm, ⟨52, _⟩ => ⟨S256x512x256, .f32⟩
  | .hbm, ⟨53, _⟩ => ⟨S1x1x256, .f32⟩
  | .hbm, ⟨54, _⟩ => ⟨S256x512x256, .f32⟩
  | .hbm, ⟨55, _⟩ => ⟨S256x512x256, .f32⟩
  | _, _ => ⟨S256x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_call2_v0 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_call3_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Norm.Column.lean ====
/-
  The mathematics of one column: a batch element's 512 masked values in one feature, normalised by their mean and
  variance over the count of values alive, then scaled and shifted. `kOut` is the kernel's arithmetic, `rOut` the
  reference's; `out_eq` says that on finite values and a finite weight they are one extended real.
-/
module

public import Idealize.ShloMosaic.PureOps.Ideal

@[expose] public section

noncomputable section

namespace Cert.Norm

open Idealize.ShloMosaic

/-! ## The two arithmetics -/

/-- A mask bit's aliveness: one where the bit is clear, zero where it is set. -/
def alive (β : BitVec 1) : EReal := FloatOps.uitofp (F := Ideal) FTy.f32 (~~~β)

/-- A value under its mask bit: itself where alive, zero times itself where masked. -/
def masked (v : EReal) (β : BitVec 1) : EReal := v * alive β

/-- The number alive, at least one, of a mask row of zeros and ones. -/
def aliveCount (a : Fin 512 → EReal) : EReal := max (∑ k, a k) 1

/-- The kernel's mean: the sum times the count's reciprocal where the count exceeds one, else the sum itself. -/
def kMean (y : Fin 512 → EReal) (C : EReal) : EReal :=
  if 1 < C then (∑ k, y k) * Ideal.div 1 C else ∑ k, y k

/-- The kernel's variance: the expanded square, over the count, cut off below at zero. -/
def kVar (y : Fin 512 → EReal) (C : EReal) : EReal :=
  max ((∑ k, y k * y k - Ideal.ofBits .f32 1073741824#32 * kMean y C * ∑ k, y k
    + Ideal.ofBits .f32 1140850688#32 * (kMean y C * kMean y C)) * Ideal.div 1 C) 0

/-- The kernel's factor: the weight over the standard deviation where the count exceeds one, else the weight. -/
def kScale (y : Fin 512 → EReal) (C w : EReal) : EReal :=
  w * if 1 < C then Ideal.rsqrt (kVar y C + Ideal.ofBits .f32 897988541#32) else 1

/-- The kernel's result at one value `v` of the column. -/
def kOut (y : Fin 512 → EReal) (C w b v : EReal) : EReal :=
  v * kScale y C w + (b - kMean y C * kScale y C w)

/-- The reference's mean. -/
def rMean (y : Fin 512 → EReal) (C : EReal) : EReal :=
  if 1 < C then Ideal.div (∑ k, y k) C else ∑ k, y k

/-- The reference's variance: the sum of squared distances from the mean, over the count; zero at a count of one. -/
def rVar (y : Fin 512 → EReal) (C : EReal) : EReal :=
  if 1 < C then Ideal.div (∑ k, (y k - rMean y C) * (y k - rMean y C)) C else 0

/-- The reference's standard deviation; one at a count of one. -/
def rStd (y : Fin 512 → EReal) (C : EReal) : EReal :=
  if 1 < C then Ideal.sqrt (rVar y C + Ideal.ofBits .f32 897988541#32) else 1

/-- The reference's result at one value `v` of the column. -/
def rOut (y : Fin 512 → EReal) (C w b v : EReal) : EReal :=
  Ideal.div (v - rMean y C) (rStd y C) * w + b

/-! ## The literals -/

/-- The kernel's factor of two, read from its bits. -/
theorem two_bits : Ideal.ofBits .f32 1073741824#32 = ((2 : ℝ) : EReal) := by
  simp [Ideal.ofBits, Ideal.ieee, -EReal.coe_mul]; norm_num

/-- The kernel's number of positions, 512, read from its bits. -/
theorem len_bits : Ideal.ofBits .f32 1140850688#32 = ((512 : ℝ) : EReal) := by
  simp [Ideal.ofBits, Ideal.ieee, -EReal.coe_mul]; norm_num

/-- The constant under the root is some positive real. -/
theorem eps_bits : ∃ e : ℝ, 0 < e ∧ Ideal.ofBits .f32 897988541#32 = (e : EReal) := by
  refine ⟨_, ?_, by simp [Ideal.ofBits, Ideal.ieee, -EReal.coe_mul]; rfl⟩
  positivity

/-! ## Sums of reals -/

/-- A sum of reals in the extended reals is the sum of the reals. -/
theorem sum_coe (f : Fin 512 → ℝ) : ∑ k, (f k : EReal) = ((∑ k, f k : ℝ) : EReal) :=
  (map_sum (⟨⟨Real.toEReal, EReal.coe_zero⟩, EReal.coe_add⟩ : ℝ →+ EReal) f Finset.univ).symm

/-- The expanded square: over all 512 values, the sum of squared distances from any `μ`. -/
theorem sq_expand (r : Fin 512 → ℝ) (μ : ℝ) :
    ∑ k, (r k - μ) * (r k - μ) = ∑ k, r k * r k - 2 * μ * ∑ k, r k + 512 * (μ * μ) := by
  have h : ∀ k, (r k - μ) * (r k - μ) = r k * r k - 2 * μ * r k + μ * μ := fun k => by ring
  simp only [h, Finset.sum_add_distrib, Finset.sum_sub_distrib, ← Finset.mul_sum, Finset.sum_const, Finset.card_univ,
    Fintype.card_fin, nsmul_eq_mul]
  push_cast
  ring

/-! ## The equation -/

/-- Adding a shift that is any extended real to an affine expression in reals: the shift may stand outside. -/
theorem affine_shift (v s μ t : ℝ) (b : EReal) (h : (v - μ) * s = t) :
    (v : EReal) * s + (b - (μ : EReal) * s) = (t : EReal) + b := by
  rw [← EReal.coe_mul, ← EReal.coe_mul, sub_eq_add_neg, ← EReal.coe_neg, add_comm b, ← add_assoc, ← EReal.coe_add]
  congr 2
  rw [← h]; ring

/-- The two means agree, and are real, on real values at a real count of at least one. -/
theorem mean_coe (r : Fin 512 → ℝ) (C : ℝ) (hC : 1 ≤ C) :
    ∃ μ : ℝ, kMean (fun k => r k) C = μ ∧ rMean (fun k => r k) C = μ := by
  have h0 : C ≠ 0 := by positivity
  unfold kMean rMean
  rw [sum_coe]
  by_cases h : (1 : EReal) < C
  · refine ⟨(∑ k, r k) * (1 / C), ?_, ?_⟩
    · rw [if_pos h, Ideal.div_coe h0, one_mul, ← EReal.coe_mul]
    · rw [if_pos h, Ideal.div_coe h0, ← EReal.coe_mul]
  · exact ⟨∑ k, r k, if_neg h, if_neg h⟩

/-- On real values, a real count of at least one and a real weight, whatever the bias, the kernel's arithmetic and the
    reference's give one extended real. -/
theorem out_eq (r : Fin 512 → ℝ) (C w v : ℝ) (hC : 1 ≤ C) (b : EReal) :
    kOut (fun k => r k) C w b v = rOut (fun k => r k) C w b v := by
  have h0 : C ≠ 0 := by positivity
  obtain ⟨μ, hk, hr⟩ := mean_coe r C hC
  obtain ⟨e, he, heq⟩ := eps_bits
  unfold kOut kScale rOut rStd
  rw [hk, hr]
  by_cases h : (1 : EReal) < C
  · have hv : 0 ≤ (∑ k, (r k - μ) * (r k - μ)) * (1 / C) :=
      mul_nonneg (Finset.sum_nonneg fun k _ => mul_self_nonneg _) (by positivity)
    have kv : kVar (fun k => r k) C = (((∑ k, (r k - μ) * (r k - μ)) * (1 / C) : ℝ) : EReal) := by
      unfold kVar
      rw [hk, two_bits, len_bits, Ideal.div_coe h0, one_mul]
      simp only [← EReal.coe_mul, sum_coe, ← EReal.coe_sub, ← EReal.coe_add]
      rw [← sq_expand]
      exact max_eq_left (by exact_mod_cast hv)
    have rv : rVar (fun k => r k) C = (((∑ k, (r k - μ) * (r k - μ)) * (1 / C) : ℝ) : EReal) := by
      unfold rVar
      rw [if_pos h, hr, Ideal.div_coe h0]
      simp only [← EReal.coe_sub, ← EReal.coe_mul, sum_coe]
    rw [if_pos h, if_pos h, kv, rv, heq, ← EReal.coe_add]
    generalize (∑ k, (r k - μ) * (r k - μ)) * (1 / C) = q at hv
    have hq : 0 < q + e := by positivity
    have hs : Real.sqrt (q + e) ≠ 0 := (Real.sqrt_pos.mpr hq).ne'
    rw [Ideal.rsqrt_coe, if_neg hq.le.not_gt, if_neg hq.ne', Ideal.sqrt_coe, if_neg hq.le.not_gt, Ideal.div_coe hs,
      ← EReal.coe_mul, ← EReal.coe_sub, ← EReal.coe_mul, ← EReal.coe_mul]
    exact affine_shift _ _ _ _ _ (by ring)
  · rw [if_neg h, if_neg h, mul_one, show (1 : EReal) = ((1 : ℝ) : EReal) from rfl, Ideal.div_coe one_ne_zero,
      ← EReal.coe_sub, ← EReal.coe_mul, ← EReal.coe_mul]
    exact affine_shift _ _ _ _ _ (by ring)

end Cert.Norm

end
-- ==== Proof.Norm.Slab.lean ====
/-
  One slab of the kernel's block: what the body computes for one batch element of the eight that a grid point holds.
-/
module

public import proofs.«01_k».proof.Proof.Gen.KernelIdeal.Frame
public import proofs.«01_k».proof.Proof.Norm.Column
public import Idealize.ShloMosaic.Lib.Pipeline.ValueKit
public import Idealize.ShloMosaic.Lib.Pointwise

@[expose] public section

set_option maxRecDepth 16384

noncomputable section

namespace Cert.KernelIdeal.Norm

open Cert.KernelIdeal Cert.KernelIdeal.Gen Idealize.ShloMosaic Idealize.ShloMosaic.TcCoe Idealize.SL.Sem Cert.Norm

variable {F : FTy → Type} [FloatOps F]

/-- What the body stores for one batch element, from that element's row of the alive mask `a`, its slab `x`, and the
    weight and bias rows: the payload of the first of the body's eight stores. -/
def slab (a : Vec F S1x512 .f32) (x : Vec F S1x512x256 .f32) (w b : Vec F S1x256 .f32) : Vec F S1x512x256 .f32 :=
  k0_pay13 (k0_pay3 w) (k0_pay4 b) (k0_pay6 a x) (k0_pay9 a) (k0_pay11 a x) (k0_pay12 a x) (Scalar.ofBits .f32 0x00000000#32)

/-- A slab at position `n` and feature `d` is `kOut` of that feature's column of masked values. -/
theorem slab_apply (a : Vec Ideal S1x512 .f32) (x : Vec Ideal S1x512x256 .f32) (w b : Vec Ideal S1x256 .f32)
    (n : Fin 512) (d : Fin 256) :
    slab a x w b (ix3 0 n d)
      = kOut (fun k => (x (ix3 0 k d) : EReal) * a (ix2 0 k)) (aliveCount fun k => a (ix2 0 k)) (w (ix2 0 d)) (b (ix2 0 d))
          ((x (ix3 0 n d) : EReal) * a (ix2 0 n)) := by
  unfold slab
  pointwise [k0_pay1, k0_pay2, k0_pay3, k0_pay4, k0_pay5, k0_pay6, k0_pay7, k0_pay8, k0_pay9, k0_pay10, k0_pay11,
    k0_pay12, k0_pay13]
  simp only [Fin.sum_univ_one, kOut, kMean, kVar, kScale, aliveCount]

/-- The staging buffer of the output after the body: its eight stores are the slabs of the eight batch elements. -/
theorem out_eq (x0 : Vec F S8x512x256 .f32) (x1 : Vec F S8x512 .f32) (x2 x3 : Vec F S1x256 .f32) :
    out0_4 x0 x1 x2 x3 = View.canon
      [⟨r0_16, slab (View.ld x1 r0_15) (View.ld x0 r0_16) (View.ld x2 r0_0) (View.ld x3 r0_0)⟩,
       ⟨r0_14, slab (View.ld x1 r0_13) (View.ld x0 r0_14) (View.ld x2 r0_0) (View.ld x3 r0_0)⟩,
       ⟨r0_12, slab (View.ld x1 r0_11) (View.ld x0 r0_12) (View.ld x2 r0_0) (View.ld x3 r0_0)⟩,
       ⟨r0_10, slab (View.ld x1 r0_9) (View.ld x0 r0_10) (View.ld x2 r0_0) (View.ld x3 r0_0)⟩,
       ⟨r0_8, slab (View.ld x1 r0_7) (View.ld x0 r0_8) (View.ld x2 r0_0) (View.ld x3 r0_0)⟩,
       ⟨r0_6, slab (View.ld x1 r0_5) (View.ld x0 r0_6) (View.ld x2 r0_0) (View.ld x3 r0_0)⟩,
       ⟨r0_4, slab (View.ld x1 r0_3) (View.ld x0 r0_4) (View.ld x2 r0_0) (View.ld x3 r0_0)⟩,
       ⟨r0_2, slab (View.ld x1 r0_1) (View.ld x0 r0_2) (View.ld x2 r0_0) (View.ld x3 r0_0)⟩] := by
  rfl

end Cert.KernelIdeal.Norm

end
-- ==== Proof.Norm.Block.lean ====
/-
  What one run of the kernel's body leaves in the output's staging buffer, from the four input blocks.
-/
module

public import proofs.«01_k».proof.Proof.Norm.Slab

@[expose] public section

set_option maxRecDepth 16384

noncomputable section

namespace Cert.KernelIdeal.Norm

open Cert.KernelIdeal Cert.KernelIdeal.Gen Idealize.ShloMosaic Idealize.ShloMosaic.TcCoe Idealize.SL.Sem Cert.Norm

/-- One output element of a block: batch element `s` of the block's eight, position `n`, feature `d`. -/
def blockOut (x0 : Vec Ideal S8x512x256 .f32) (x1 : Vec Ideal S8x512 .f32) (x2 x3 : Vec Ideal S1x256 .f32)
    (s : Fin 8) (n : Fin 512) (d : Fin 256) : EReal :=
  kOut (fun k => (x0 (ix3 s k d) : EReal) * x1 (ix2 s k)) (aliveCount fun k => x1 (ix2 s k)) (x2 (ix2 0 d)) (x3 (ix2 0 d))
    ((x0 (ix3 s n d) : EReal) * x1 (ix2 s n))

/-- A slab whose inputs are read off batch element `s` of the blocks is `blockOut` there. -/
theorem slab_of (x0 : Vec Ideal S8x512x256 .f32) (x1 : Vec Ideal S8x512 .f32) (x2 x3 : Vec Ideal S1x256 .f32)
    (a : Vec Ideal S1x512 .f32) (x : Vec Ideal S1x512x256 .f32) (w b : Vec Ideal S1x256 .f32) (z : S1x512x256.Idx)
    (s : Fin 8) (n : Fin 512) (d : Fin 256) (ha : ∀ k, a (ix2 0 k) = x1 (ix2 s k))
    (hx : ∀ k e, x (ix3 0 k e) = x0 (ix3 s k e)) (hw : w = x2) (hb : b = x3)
    (hn : (n : ℕ) = z 1) (hd : (d : ℕ) = z 2) :
    slab a x w b z = blockOut x0 x1 x2 x3 s n d := by
  have hz : z = ix3 0 n d := by
    funext q; fin_cases q
    · exact Subsingleton.elim (α := Fin 1) _ _
    · exact Fin.ext hn.symm
    · exact Fin.ext hd.symm
  subst hw hb
  rw [hz, slab_apply]
  unfold blockOut
  simp only [ha, hx]

/-- The load of a whole row of weights or biases is the row. -/
theorem ld_row (r : Vec Ideal S1x256 .f32) : View.ld r r0_0 = r := by
  funext j
  refine View.ld_unit_apply_of _ _ _ _ _ _ fun q => ?_
  fin_cases q <;> exact (Nat.zero_add _).symm

/-- The staging buffer of the output after the body, at any index. -/
theorem out_apply (x0 : Vec Ideal S8x512x256 .f32) (x1 : Vec Ideal S8x512 .f32) (x2 x3 : Vec Ideal S1x256 .f32)
    (s : Fin 8) (n : Fin 512) (d : Fin 256) : out0_4 x0 x1 x2 x3 (ix3 s n d) = blockOut x0 x1 x2 x3 s n d := by
  rw [out_eq]
  canon_tiles x h
  all_goals
    have hs : (s : ℕ) = _ + (x 0 : ℕ) := h0.trans (by first | rfl | exact (Nat.zero_add _).symm)
    refine slab_of x0 x1 x2 x3 _ _ _ _ x s n d (fun k => ?_) (fun k e => ?_) (ld_row x2) (ld_row x3) h1 h2
    · refine View.ld_unit_apply_of _ _ _ _ _ _ fun q => ?_
      fin_cases q
      · exact hs.trans (congrArg _ (Nat.lt_one_iff.mp x0_lt))
      · exact (Nat.zero_add _).symm
    · refine View.ld_unit_apply_of _ _ _ _ _ _ fun q => ?_
      fin_cases q
      · exact hs.trans (congrArg _ (Nat.lt_one_iff.mp x0_lt))
      · exact (Nat.zero_add _).symm
      · exact (Nat.zero_add _).symm

end Cert.KernelIdeal.Norm

end
-- ==== Proof.Norm.Array.lean ====
/-
  What the kernel's result array holds: at every index `kOut` of that index's column.
-/
module

public import proofs.«01_k».proof.Proof.Norm.Block
public import proofs.«01_k».proof.Proof.Gen.KernelIdeal.Value

@[expose] public section

set_option maxRecDepth 16384

noncomputable section

namespace Cert.KernelIdeal.Norm

open Cert.KernelIdeal Cert.KernelIdeal.Gen Idealize.ShloMosaic Idealize.ShloMosaic.TcCoe Idealize.SL.Sem Cert.Norm

/-- Where each window's block lies at a grid point: eight batch elements on for `x`, the alive mask and the result, the
    whole row for the weights and biases. -/
theorem idx : ∀ t : Fin cfg0.N, win0_0.index t = ![t.val, 0, 0] ∧ win0_1.index t = ![t.val, 0]
    ∧ win0_2.index t = ![0, 0] ∧ win0_3.index t = ![0, 0] ∧ win0_4.index t = ![t.val, 0, 0] :=
  (by decide +kernel : ∀ t : Fin grid0.N, win0_0.index t = ![t.val, 0, 0] ∧ win0_1.index t = ![t.val, 0]
    ∧ win0_2.index t = ![0, 0] ∧ win0_3.index t = ![0, 0] ∧ win0_4.index t = ![t.val, 0, 0])

variable (m : (ℓ : Loc nD τ sig) → Buf (Elt Ideal) ℓ)

/-- The kernel's result array. -/
def arr (c : Dev nD) : Vec Ideal S256x512x256 .f32 := fun i =>
  kOut (fun k => masked (m (c.tc.loc main_arg0) (ix3 (i 0) k (i 2))) (m (c.tc.loc main_arg1) (ix2 (i 0) k)))
    (aliveCount fun k => alive (m (c.tc.loc main_arg1) (ix2 (i 0) k))) (m (c.tc.loc main_arg2) (ix1 (i 2)))
    (m (c.tc.loc main_arg3) (ix1 (i 2)))
    (masked (m (c.tc.loc main_arg0) (ix3 (i 0) (i 1) (i 2))) (m (c.tc.loc main_arg1) (ix2 (i 0) (i 1))))

/-- Batch element `s` of the eight at grid point `t`. -/
def batch (t : Fin cfg0.N) (s : Fin 8) : Fin 256 := ⟨t.val * 8 + s.val, by
  have h : t.val < 32 := t.isLt
  omega⟩

/-- The block of `x` at a grid point. -/
theorem blk_x (c : Dev nD) (t : Fin cfg0.N) (s : Fin 8) (k : Fin 512) (d : Fin 256) :
    iblk m c 0 t (ix3 s k d) = m (c.tc.loc main_arg0) (ix3 (batch t s) k d) := by
  unfold batch
  blk_ext! [iblk, V, idx t]

/-- The block of the alive mask at a grid point. -/
theorem blk_alive (c : Dev nD) (t : Fin cfg0.N) (s : Fin 8) (k : Fin 512) :
    iblk m c 1 t (ix2 s k) = alive (m (c.tc.loc main_arg1) (ix2 (batch t s) k)) := by
  unfold batch alive
  blk_simp [iblk]
  entry_read
  show FloatOps.uitofp FTy.f32 (~~~m (c.tc.loc main_arg1) (((View.whole main_v1).slice (win0_1.rect t)).emb (ix2 s k))) = _
  congr 3
  blk_ext [idx t]

/-- The block of the weights at a grid point. -/
theorem blk_w (c : Dev nD) (t : Fin cfg0.N) (d : Fin 256) :
    iblk m c 2 t (ix2 0 d) = m (c.tc.loc main_arg2) (ix1 d) := by
  blk_ext! [iblk, V, idx t]

/-- The block of the biases at a grid point. -/
theorem blk_b (c : Dev nD) (t : Fin cfg0.N) (d : Fin 256) :
    iblk m c 3 t (ix2 0 d) = m (c.tc.loc main_arg3) (ix1 d) := by
  blk_ext! [iblk, V, idx t]

/-- After the run the kernel's result array is `arr`. -/
theorem arrAt_eq (c : Dev nD) : (dats m 0 c).arrAt 4 cfg0.N = arr m c := by
  refine (dats m 0 c).arrAt_eq_of_covers 4 _ (by decide +kernel) fun t hf y => ?_
  blk_simp
  rw [after0_4]
  obtain ⟨s, n, d, rfl⟩ : ∃ (s : Fin 8) (n : Fin 512) (d : Fin 256), y = ix3 s n d :=
    ⟨y 0, y 1, y 2, by funext q; fin_cases q <;> rfl⟩
  have he : (win0_4.blk t).view.emb (ix3 s n d) = ix3 (batch t s) n d := by
    unfold batch
    blk_ext [idx t]
  rw [he, out_apply]
  unfold blockOut arr masked
  simp only [blk_x, blk_alive, blk_w, blk_b]
  rfl

end Cert.KernelIdeal.Norm

end
-- ==== Proof.Norm.Finite.lean ====
/-
  What the precondition says, read at an index: every value that the mask leaves alive is a real, and so is every weight.
-/
module

public import proofs.«01_k».proof.Proof.Gen.Pre_finite_where_alive
public import proofs.«01_k».proof.Proof.Norm.Column
public import Idealize.ShloMosaic.Lib.ReduceAll
public import Idealize.ShloMosaic.Lib.Affine
public import Idealize.ShloMosaic.Lib.Pipeline.ValueKit
public import Idealize.ShloMosaic.Lib.Pointwise

@[expose] public section

set_option maxRecDepth 16384

noncomputable section

namespace Cert.Norm

open Cert.Pre_finite_where_alive Idealize.ShloMosaic

/-- The bound of the comparisons is plus infinity. -/
theorem top_bits : Ideal.ofBits .f32 2139095040#32 = ⊤ := by
  simp [Ideal.ofBits, Ideal.ieee, -EReal.coe_mul]

/-- An extended real whose absolute value compares below plus infinity is a real. -/
theorem coe_of_abs (v : EReal) (h : BitVec.ofBool (decide (FloatOps.absf (F := Ideal) (φ := .f32) v
    < Ideal.ofBits FTy.f32 2139095040#32)) = 1#1) : ∃ r : ℝ, v = (r : EReal) := by
  rw [top_bits] at h
  have hb : ∀ q : Bool, BitVec.ofBool q = 1#1 → q = true := by decide
  have h' : max v (-v) < (⊤ : EReal) := of_decide_eq_true (hb _ h)
  induction v using EReal.rec with
  | bot => exact absurd h' (by simp)
  | coe r => exact ⟨r, rfl⟩
  | top => exact absurd h' (by simp)

/-- A masked value is a real wherever the value under a clear bit is: zero times any extended real is zero. -/
theorem masked_coe (v z : EReal) (β : BitVec 1) (h : ∃ r : ℝ, Scalar.select β z v = (r : EReal)) :
    ∃ r : ℝ, masked v β = (r : EReal) := by
  have hβ : ∀ γ : BitVec 1, γ = 0#1 ∨ γ = 1#1 := by decide
  unfold masked alive
  rcases hβ β with rfl | rfl
  · obtain ⟨r, hr⟩ := h
    refine ⟨r, ?_⟩
    have hv : v = r := hr
    rw [hv]
    show (r : EReal) * (((~~~(0#1 : BitVec 1)).toNat : ℝ) : EReal) = r
    simp
  · refine ⟨0, ?_⟩
    show v * (((~~~(1#1 : BitVec 1)).toNat : ℝ) : EReal) = _
    simp

/-- The number alive is a real of at least one. -/
theorem aliveCount_coe (β : Fin 512 → BitVec 1) : ∃ C : ℝ, 1 ≤ C ∧ aliveCount (fun k => alive (β k)) = (C : EReal) := by
  refine ⟨max (∑ k, ((~~~β k).toNat : ℝ)) 1, le_max_right _ _, ?_⟩
  unfold aliveCount
  have h : ∀ k, alive (β k) = (((~~~β k).toNat : ℝ) : EReal) := fun _ => rfl
  simp only [h, sum_coe]
  exact (EReal.coe_strictMono.monotone.map_max).symm

variable [Facts] (x : FVec Ideal S256x512x256 .f32) (mask : IVec S256x512 1) (w b : FVec Ideal S256 .f32)

/-- Under the precondition every weight is a real. -/
theorem pre_weights (h : fn (F := Ideal) x mask w b = fun _ => 1#1) (d : Fin 256) :
    ∃ r : ℝ, w (ix1 d) = (r : EReal) := by
  have h0 := congrFun h ix0
  dsimp only [fn] at h0
  have h2 := Host.reduce_andi_all _ _ _ _ _ (IntOp.andi_eq_one.1 h0).2 (ix1 d)
  pointwise at h2
  exact coe_of_abs _ h2

/-- Under the precondition every masked value is a real. -/
theorem pre_values (h : fn (F := Ideal) x mask w b = fun _ => 1#1) (B : Fin 256) (n : Fin 512) (d : Fin 256) :
    ∃ r : ℝ, masked (x (ix3 B n d)) (mask (ix2 B n)) = (r : EReal) := by
  have h0 := congrFun h ix0
  dsimp only [fn] at h0
  have h2 := Host.reduce_andi_all _ _ _ _ _ (IntOp.andi_eq_one.1 h0).1 (ix3 B n d)
  dsimp only [fn_where] at h2
  pointwise at h2
  exact masked_coe _ _ _ (coe_of_abs _ h2)

/-- Under the precondition the kernel's arithmetic and the reference's agree at every index. -/
theorem pre_out_eq (h : fn (F := Ideal) x mask w b = fun _ => 1#1) (B : Fin 256) (n : Fin 512) (d : Fin 256) :
    kOut (fun k => masked (x (ix3 B k d)) (mask (ix2 B k))) (aliveCount fun k => alive (mask (ix2 B k))) (w (ix1 d))
        (b (ix1 d)) (masked (x (ix3 B n d)) (mask (ix2 B n)))
      = rOut (fun k => masked (x (ix3 B k d)) (mask (ix2 B k))) (aliveCount fun k => alive (mask (ix2 B k))) (w (ix1 d))
        (b (ix1 d)) (masked (x (ix3 B n d)) (mask (ix2 B n))) := by
  choose r hr using fun k => pre_values x mask w b h B k d
  obtain ⟨u, hu⟩ := pre_weights x mask w b h d
  obtain ⟨C, hC, he⟩ := aliveCount_coe fun k => mask (ix2 B k)
  simp only [hr]
  rw [hu, he]
  exact out_eq r C u (r n) hC (b (ix1 d))

end Cert.Norm

end
-- ==== Proof.Norm.Reference.lean ====
/-
  What the reference computes at one index: `rOut` of the index's column, the masked values of one batch element in one
  feature.
-/
module

public import proofs.«01_k».proof.Proof.Gen.ReferenceIdeal.Run
public import proofs.«01_k».proof.Proof.Norm.Column
public import Idealize.ShloMosaic.Lib.Pipeline.ValueKit
public import Idealize.ShloMosaic.Lib.Pointwise

@[expose] public section

set_option maxRecDepth 16384

noncomputable section

namespace Cert.ReferenceIdeal.Norm

open Cert.ReferenceIdeal Cert.ReferenceIdeal.Gen Idealize.ShloMosaic Idealize.ShloMosaic.TcCoe Idealize.SL.Sem Cert.Norm

/-- The reference's one, read from its bits. -/
theorem one_read : (id (constant (F := Ideal) S_ FTy.f32 1065353216#32) ix0 : EReal) = 1 := by
  show Ideal.ofBits .f32 1065353216#32 = 1
  simp [Ideal.ofBits, Ideal.ieee, -EReal.coe_mul]
  norm_num

/-- The reference's result at batch element `B`, position `n` and feature `d`. -/
theorem res_apply (m : (ℓ : Loc nD τ sig) → Buf (Elt Ideal) ℓ) (c : Dev nD) (B : Fin 256) (n : Fin 512) (d : Fin 256) :
    (Value.res_out0 m c : FVec Ideal S256x512x256 .f32) (ix3 B n d)
      = rOut (fun k => masked (m (c.tc.loc main_arg0) (ix3 B k d)) (m (c.tc.loc main_arg1) (ix2 B k)))
          (aliveCount fun k => alive (m (c.tc.loc main_arg1) (ix2 B k))) (m (c.tc.loc main_arg2) (ix1 d))
          (m (c.tc.loc main_arg3) (ix1 d))
          (masked (m (c.tc.loc main_arg0) (ix3 B n d)) (m (c.tc.loc main_arg1) (ix2 B n))) := by
  unfold Value.res_out0 Value.res_main_v38
  pointwise
  simp only [one_read, max_comm (1 : EReal), rOut, rMean, rVar, rStd, aliveCount, masked, alive]
  rfl

end Cert.ReferenceIdeal.Norm

end
-- ==== Proof.lean ====
/-
  The certificate's claims assembled: the three frames, the pass-through of the kernel's text, and the equality of the
  kernel's result with the reference's at the ideal instance, from the modules under Proof/Norm/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_where_alive
public import proofs.«01_k».proof.Proof.Norm.Array
public import proofs.«01_k».proof.Proof.Norm.Finite
public import proofs.«01_k».proof.Proof.Norm.Reference
public import Idealize.ShloMosaic.Lib.Quiescent
public import Idealize.ShloMosaic.Adequacy
public import Idealize.ShloMosaic.Init

@[expose] public section

noncomputable section

namespace Cert.Proof

open Idealize.ShloMosaic Idealize.SL.Sem Cert.Norm

/-- The reference keeps its arguments and ends with every counter at zero: it owns no semaphore. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments, the reference's result is the kernel's array, wherever the values alive
    and the weights are finite. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_where_alive.fn (F := Ideal) (m (c.tc.loc Cert.KernelIdeal.main_arg0))
      (m (c.tc.loc Cert.KernelIdeal.main_arg1)) (m (c.tc.loc Cert.KernelIdeal.main_arg2))
      (m (c.tc.loc Cert.KernelIdeal.main_arg3)) = fun _ => 1#1)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3)) :
    Cert.ReferenceIdeal.Value.res_out0 m' c = Cert.KernelIdeal.Norm.arr m c := by
  funext i
  obtain ⟨B, n, d, rfl⟩ : ∃ (B : Fin 256) (n : Fin 512) (d : Fin 256), i = ix3 B n d :=
    ⟨i 0, i 1, i 2, by funext q; fin_cases q <;> rfl⟩
  rw [Cert.ReferenceIdeal.Norm.res_apply, h0, h1, h2, h3]
  exact (pre_out_eq _ _ _ _ hpre B n d).symm

/-- The kernel's result is the reference's at the ideal instance. -/
theorem algebraic : Cert.algebraic_KernelIdeal_ReferenceIdeal_pre_finite_where_alive
    (hKernelIdeal := Cert.KernelIdeal.Gen.facts) (hReferenceIdeal := Cert.ReferenceIdeal.Gen.facts)
    (hPre_finite_where_alive := Cert.Pre_finite_where_alive.Gen.facts) := by
  intro m ρ m' ρ' hpre hagree
  refine ⟨fun c => Cert.KernelIdeal.Norm.arr m c, ?_, ?_⟩
  · refine (θ_run Cert.KernelIdeal.defs _ _).mono (fun r h c => ?_) (Cert.KernelIdeal.Value.run_blocks (F := Ideal) m ρ)
    exact ⟨(h c).1.trans (Cert.KernelIdeal.Norm.arrAt_eq m c), (h c).2⟩
  · refine (θ_run Cert.ReferenceIdeal.defs _ _).mono (fun r h c => ?_) (Cert.ReferenceIdeal.Value.run (F := Ideal) m' ρ')
    obtain ⟨h0, h1, h2, h3⟩ := hagree c
    exact ⟨(h c).1.trans (res_eq m m' c (hpre c) h0 h1 h2 h3), (h c).2⟩

/-- Every claim of the certificate. -/
theorem claim : Cert.Claim :=
  ⟨Cert.Kernel.Gen.facts, Cert.KernelIdeal.Gen.facts, Cert.ReferenceIdeal.Gen.facts, Cert.Pre_finite_where_alive.Gen.facts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial, trivial, algebraic⟩

end Cert.Proof

end
